-- ==== Defs.lean ====
def Pre_Kernel [hPre_x_in_rows : Cert.Pre_x_in_rows.Facts] (m : (ℓ : Loc Cert.Kernel.nD Cert.Kernel.τ Cert.Kernel.sig) → Buf (Elt Bits) ℓ) : Prop :=
  ∀ c : Dev Cert.Kernel.nD,
    (Cert.Pre_x_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_x_in_rows : Cert.Pre_x_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_x_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_in_rows [hPre_x_in_rows : Cert.Pre_x_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_x_in_rows : Cert.Pre_x_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_x_in_rows : Cert.Pre_x_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_x_in_rows [hReferenceIdeal : Cert.ReferenceIdeal.Facts] [hPre_x_in_rows : Cert.Pre_x_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_x_in_rows : Cert.Pre_x_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_x_in_rows : Cert.Pre_x_in_rows.Facts),
    quiescent_Kernel (hKernel := hKernel) (hPre_x_in_rows := hPre_x_in_rows)
    ∧ quiescent_KernelIdeal (hKernelIdeal := hKernelIdeal) (hPre_x_in_rows := hPre_x_in_rows)
    ∧ quiescent_ReferenceIdeal (hReferenceIdeal := hReferenceIdeal)
    ∧ quiescent_ReferenceIdeal_pre_x_in_rows (hReferenceIdeal := hReferenceIdeal) (hPre_x_in_rows := hPre_x_in_rows)
    ∧ preserves_Kernel_KernelIdeal
    ∧ algebraic_KernelIdeal_ReferenceIdeal (hKernelIdeal := hKernelIdeal) (hReferenceIdeal := hReferenceIdeal) (hPre_x_in_rows := hPre_x_in_rows)
-- ==== Pre_x_in_rows.lean ====
abbrev S16384 : Shape := ⟨1, ![16384]⟩
abbrev S8193x128 : Shape := ⟨2, ![8193, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S8193x128 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 8192#32
  let main_v2 : IVec S16384 32 := broadcastInDim S16384 ![] bcast_S_S16384 main_c_0
  let main_v3 : IVec S16384 1 := cmpi .sle main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S8193x128 : Shape := ⟨2, ![8193, 128]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S128x128 : Shape := ⟨2, ![128, 128]⟩
abbrev S128 : Shape := ⟨1, ![128]⟩

abbrev nBuf : Table → Nat
  | .hbm => 3
  | .local .scVector .vmem => 2
  | _ => 0

abbrev bufTy : (tb : Table) → Fin (nBuf tb) → BufTy
  | .hbm, ⟨0, _⟩ => ⟨S16384, .i32⟩
  | .hbm, ⟨1, _⟩ => ⟨S8193x128, .f32⟩
  | .hbm, ⟨2, _⟩ => ⟨S16384x128, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_36_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S8193x128 : Shape := ⟨2, ![8193, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S8193x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.StreamBatch.lean ====
/-
  Several indirect gathers in flight on one DMA semaphore.

  The kernel starts four indirect gathers on one semaphore and only then waits for them, one after another. A wait on
  that semaphore says nothing about which gather has arrived: the four gathers' rows all raise one counter, and the
  waits lower it. Only after the last wait is every row known to have landed.

  This module treats the ROWS of all the gathers as one batch of transfers (`Transfers.Batch`), each row one transfer of
  the batch. Starting a gather of `o` rows starts the batch's next `o` transfers (`start_gather`); the waits are then
  the batch's own. What a gather is handed splits into what each row is handed (`rows_split`), and what its rows bring
  back joins to the target written with the gathered rows, beside the source and the list (`rows_join`).
-/
module

public import Idealize.ShloMosaic.Lib.SparseCore.Stream
public import Idealize.ShloMosaic.Lib.Batch

@[expose] public section

noncomputable section

namespace Cert.Proof.Streams

open Idealize.ShloMosaic Idealize.ShloMosaic.SparseCore
open Idealize.SL Idealize.SL.RA
open Idealize.SL.BI (sProp Storable bigSep)
open scoped Idealize.SL.BI
open Idealize.SL.BI.BIBase Idealize.SL.BI.Laws Idealize.SL.Sem Idealize.SL.ProofMode
open Idealize.ShloMosaic.Transfers (Batch pending batchBody batch_creditUpdate)

section Rights

variable {M : Type} [URA M] {n : ℕ}

/-- Transfer `j` of the `o` transfers of a batch that come next after the first `k`. -/
def nth (k : ℕ) {o : ℕ} (h : k + o ≤ n) (j : Fin o) : Fin n := ⟨k + j.val, by omega⟩

/-- A family over the transfers not among a batch's first `k` is its next `o` members and those after them. -/
theorem pending_split (k : ℕ) {o : ℕ} (h : k + o ≤ n) (Φ : Fin n → sProp M) :
    bigSep (pending k) Φ = iprop((bigSep Finset.univ fun j : Fin o => Φ (nth k h j)) ∗ bigSep (pending (k + o)) Φ) := by
  have hinj : Function.Injective (nth k h) := fun a b e => Fin.ext (by have := congrArg Fin.val e; simp only [nth] at this; omega)
  have hset : pending (n := n) k = Finset.univ.map ⟨nth k h, hinj⟩ ∪ pending (k + o) := by
    ext t
    simp only [pending, Finset.mem_filter, Finset.mem_univ, _root_.true_and, Finset.mem_union, Finset.mem_map, Function.Embedding.coeFn_mk]
    constructor
    · intro ht
      by_cases h2 : k + o ≤ t.val
      · exact .inr h2
      · exact .inl ⟨⟨t.val - k, by omega⟩, Fin.ext (by simp only [nth]; omega)⟩
    · rintro (⟨j, rfl⟩ | ht)
      · simp only [nth]; omega
      · omega
  have hdis : Disjoint (Finset.univ.map ⟨nth k h, hinj⟩) (pending (n := n) (k + o)) := by
    refine Finset.disjoint_left.mpr fun t ht ht' => ?_
    simp only [pending, Finset.mem_filter, Finset.mem_univ, _root_.true_and, Finset.mem_map, Function.Embedding.coeFn_mk] at ht ht'
    obtain ⟨j, rfl⟩ := ht
    have := j.isLt
    simp only [nth] at ht'; omega
  rw [hset, BI.bigSep_union hdis, BI.bigSep_map]; rfl

end Rights

variable {nD : Nat} {τ : Topo} {sig : RefSig} {Ix : Type} [DecidableEq Ix] {F : FTy → Type} {Name : Type} [DecidableEq Name]
variable {U : Type} [URA U] {Lvl : Type} [Preorder Lvl] {Λ : Labels} {defs : Defs nD τ sig (Elt F) Λ}

local notation "𝕄" => MT nD τ sig Ix (Elt F) Name U Lvl

variable (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- The target's row `j` as a view. -/
abbrev rowView (dst : Memref sig c.2.kind .vmem s e) (hg : s₀.Gathers a s) (j : Fin (s.size hg.axis')) :=
  dst.view.slice (s.rowRect hg.axis' j)

/-- Entry `j` of the list of row numbers, as an index of the list. -/
def entryAt {o : ℕ} (hn : si.numel = o) (j : Fin o) : si.Idx := si.rowMajor.symm (j.cast hn.symm)

/-- The list's entries are all its indices, each once. -/
theorem entryAt_bijective {o : ℕ} (hn : si.numel = o) : Function.Bijective (entryAt (si := si) hn) :=
  si.rowMajor.symm.bijective.comp (finCongr hn.symm).bijective

/-- What row `j` of a gather needs: the target's row, its entry of the list, and its piece of the share of the source. -/
def rowIn (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c)) (j : Fin (s.size hg.axis')) : sProp 𝕄 :=
  iprop((dst.view.loc c ↦[(rowView c dst hg j).set]{fullShare} fd)
    ∗ (offs.view.loc c ↦[{offs.view.emb (entryAt hn j)}]{qo} fo)
    ∗ (src.view.loc c ↦[src.view.set]{pieceOf q _ ho j} fs))

/-- What row `j` of a gather brings back: the same, the target's row holding the source's row that the list's entry `j` names. -/
def rowOut (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop((dst.view.loc c ↦[(rowView c dst hg j).set]{fullShare}
        ((rowView c dst hg j).write (Elt F) fd (fun i => src.view.read (Elt F) fs (hg.rowIdx (r j) i)) Finset.univ))
    ∗ (offs.view.loc c ↦[{offs.view.emb (entryAt hn j)}]{qo} fo)
    ∗ (src.view.loc c ↦[src.view.set]{pieceOf q _ ho j} fs))

section Gather

variable (src : Memref sig c.2.kind sp s₀ e) (dst : Memref sig c.2.kind .vmem s e) (hg : s₀.Gathers a s)
variable (offs : Memref sig c.2.kind .vmem si .i32) (hn : si.numel = s.size hg.axis') (ho : 0 < s.size hg.axis') (q qo : PosShare TreeShare)
variable (fs : Buf (Elt F) (src.view.loc c)) (fd : Buf (Elt F) (dst.view.loc c)) (fo : Buf (Elt F) (offs.view.loc c))

instance rowOut_storable (r : Fin (s.size hg.axis') → Fin (s₀.size hg.axis)) (j : Fin (s.size hg.axis')) :
    Storable (upEmb : UEmb _ 𝕄) (rowOut (Ix := Ix) (Name := Name) (U := U) (Lvl := Lvl) c src dst hg offs hn ho q qo fs fd fo r j) := by
  unfold rowOut; infer_instance

omit [Preorder Lvl] in
/-- A share of the source, the target and the list are what the rows of the gather need. -/
theorem rows_split :
    iprop((src.view.loc c ↦[src.view.set]{q} fs) ∗ (dst.view.loc c ↦[dst.view.set]{fullShare} fd) ∗ (offs.view.loc c ↦[offs.view.set]{qo} fo))
      ⊢ (bigSep Finset.univ (rowIn c src dst hg offs hn ho q qo fs fd fo) : sProp 𝕄) := by
  rw [pointsTo_piecesOf src.view.set fs ho q, pointsTo_rows c dst.view hg.axis' fullShare fd,
    pointsTo_entries c offs.view (entryAt hn) (entryAt_bijective hn) qo fo]
  unfold rowIn
  rw [BI.bigSep_sep', BI.bigSep_sep']
  iintro ⟨Hs, Hd, Ho⟩
  isplitl [Hd]; · iexact Hd
  isplitl [Ho] <;> iassumption

omit [Preorder Lvl] in
/-- What the rows of the gather bring back is the source's share, the target written with the gathered rows, and the list. -/
theorem rows_join (r : Fin (s.size hg.axis') → Fin (s₀.size hg.axis)) :
    bigSep Finset.univ (rowOut c src dst hg offs hn ho q qo fs fd fo r)
      ⊢ (iprop((src.view.loc c ↦[src.view.set]{q} fs)
          ∗ (dst.view.loc c ↦[dst.view.set]{fullShare} (dst.view.write (Elt F) fd (gatherPayload hg (src.view.read (Elt F) fs) r) Finset.univ))
          ∗ (offs.view.loc c ↦[offs.view.set]{qo} fo)) : sProp 𝕄) := by
  rw [pointsTo_piecesOf src.view.set fs ho q, pointsTo_entries c offs.view (entryAt hn) (entryAt_bijective hn) qo fo]
  unfold rowOut
  rw [BI.bigSep_sep', BI.bigSep_sep']
  have hrows : (bigSep Finset.univ fun j => (dst.view.loc c ↦[(rowView c dst hg j).set]{fullShare}
        ((rowView c dst hg j).write (Elt F) fd (fun i => src.view.read (Elt F) fs (hg.rowIdx (r j) i)) Finset.univ) : sProp 𝕄))
      ⊢ (dst.view.loc c ↦[dst.view.set]{fullShare} (dst.view.write (Elt F) fd (gatherPayload hg (src.view.read (Elt F) fs) r) Finset.univ) : sProp 𝕄) :=
    pointsTo_rows_write c dst.view hg.axis' fd (fun j i => src.view.read (Elt F) fs (hg.rowIdx (r j) i)) _ fun j i => by
      unfold gatherPayload; rw [Shape.Gathers.idx_rowRect_emb]
  iintro ⟨Hd, Ho, Hs⟩
  isplitl [Hs]; · iexact Hs
  isplitr [Ho]
  · iapply hrows $$ Hd
  · iexact Ho

/-- Starting a gather on a semaphore that already carries the first `k` rows of a batch: its rows become the batch's
    next ones. Each must be worth the batch's `N` units, every row number of the list must be in range, and what a row
    brings back must be what the batch says of it. -/
theorem start_gather [Infinite Name] [EC.LandsIn (upEmb : UEmb _ 𝕄)] {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α} (ι : Ix) (N : ℕ) {n : ℕ} {D : Fin n → sProp 𝕄} {x u : ℕ} (hx : x + s.size hg.axis' ≤ n) (hu : u ≤ x * N)
    (hN : ∀ j, (dst.slice (s.rowRect hg.axis' j) (s.stride_rowRect hg.axis' j)).view.dmaCredit = N)
    (hin : ∀ y, (offs.view.read (Elt F) fo y).toNat < s₀.size hg.axis)
    (hD : ∀ j, rowOut c src dst hg offs hn ho q qo fs fd fo (SparseCore.rows (offs.view.read (Elt F) fo) hn hin) j ⊢ D (nth x hx j)) :
    iprop((bigSep Finset.univ (rowIn c src dst hg offs hn ho q qo fs fd fo)) ∗ Batch EC c (.dma sem) ι N D x u)
      ⊢ iprop((Batch EC c (.dma sem) ι N D (x + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let r := SparseCore.rows (offs.view.read (Elt F) fo) hn hin
  let mv : Fin (s.size hg.axis') → Fin (s₀.size hg.axis) → RowDma τ sig (Elt F) c.2 sem := gatherRow c src dst hg sem hsrc he hsp hr
  let S : Stream nD τ sig (Elt F) := Stream.issued c offs.view hn sem (fun j w => (rowOf (s₀.size hg.axis) w).map (mv j)) 0
  have hagree : S.RowsAgree := fun j w w' ρ ρ' h h' => by
    obtain ⟨_, _, rfl⟩ := Option.map_eq_some_iff.mp h
    obtain ⟨_, _, rfl⟩ := Option.map_eq_some_iff.mp h'
    rfl
  have hname : ∀ j, S.row j (S.word fo j) = some (mv j (r j)) := fun j => by
    change (rowOf (s₀.size hg.axis) (offs.view.read (Elt F) fo (S.entry j))).map (mv j) = _
    rw [rowOf_of_lt (hin _)]; rfl
  have htot : ∑ j, (mv j (r j)).dst.view.dmaCredit = s.size hg.axis' * N := by
    refine (Finset.sum_congr rfl fun j _ => hN j).trans ?_
    rw [Finset.sum_const, Finset.card_univ, Fintype.card_fin, smul_eq_mul]
  unfold Batch
  iintro ⟨Hrows, ⟨%γ, %γ₀, %κ, #Hinv, Hright, Hu, Hcred⟩⟩ Hk
  ihave Hright' := (Entails.of_eq (pending_split x hx fun t => count EC (γ t) 0)) $$ Hright
  icases Hright' with ⟨Hnow, Hlater⟩
  have hrow : ∀ j, iprop(inv κ (batchBody EC (c, SemLoc.dma sem) N D γ γ₀) ∗ (rowIn c src dst hg offs hn ho q qo fs fd fo j ∗ count EC (γ (nth x hx j)) 0))
      ⊢ iprop(S.heldEntry qo fo j ∗ (S.heldEntry qo fo j -∗ rowRes c (mv j (r j)))) := fun j => by
    unfold rowIn
    iintro ⟨#Hinv, ⟨Hd, He, Hs⟩, Hright⟩
    isplitl [He]; · iexact He
    iintro He
    unfold rowRes
    iexists pieceOf q _ ho j, fs, iprop((dst.view.loc c ↦[(rowView c dst hg j).set]{fullShare}
        ((rowView c dst hg j).write (Elt F) fd (fun i => src.view.read (Elt F) fs (hg.rowIdx (r j) i)) Finset.univ)) ∗ S.heldEntry qo fo j)
    isplitl [Hs]; · iexact Hs
    isplitl [Hd He]
    · iapply writeUpdate_frame
      isplitl [Hd]
      · iapply (pointsTo_writeUpdate c (v := rowView c dst hg j) subset_rfl) $$ Hd
      · iexact He
    · rw [show (mv j (r j)).dst.view.amount (SemLoc.dma sem) = N from hN j]
      iapply (batch_creditUpdate EC (nth x hx j) (sep_assoc.1.trans (hD j)))
      isplitr; · iexact Hinv
      iexact Hright
  iapply (wp_enqueueIndirectDma 𝒱 c bd Set.univ (qo := qo) (fo := fo) (rd := fun j => mv j (r j)) ι (s.size hg.axis' * N) hagree hname htot) $$ [Hrows Hnow]
  · unfold Stream.res
    ihave Hboth := Transfers.bigSep_sep_in _ _ _ $$ [Hrows Hnow]; · isplitl [Hrows] <;> iassumption
    iapply (Transfers.bigSep_mono_pers Finset.univ _ _ _ fun j _ => hrow j)
    isplitr; · iexact Hinv
    iexact Hboth
  iintro Hnew
  iapply Hk
  iexists γ, γ₀, κ
  isplitr; · iexact Hinv
  isplitl [Hlater]; · iexact Hlater
  isplitl [Hu]; · iexact Hu
  rw [show (x + s.size hg.axis') * N - u = (x * N - u) + s.size hg.axis' * N by rw [Nat.add_mul]; omega, ← tallyAt_add]
  icombine Hcred Hnew as H
  iexact H

end Gather

end Cert.Proof.Streams

end
-- ==== Proof.Setup.lean ====
/-
  What the proof speaks of: the program as the launch theorem takes it, the three arrays, the two scratch buffers of a
  subcore, and the value the output ends at.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.StreamBatch
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen
open Idealize.ShloMosaic
open Idealize.ShloMosaic.SparseCore.Cfg (HIx)
open Idealize.SL Idealize.SL.RA Idealize.SL.BI Idealize.SL.Sem
open Idealize.ShloMosaic.Rounds

variable {F : FTy → Type}

/-! ## The program -/

/-- The labels of the program's kernels. -/
abbrev Lab : Labels := Pipeline.Sig Λ₀ (Fin 0) fun p => (pcfgs (F := F) p).Adm
/-- The program's one SparseCore call. -/
abbrev K : SparseCore.Cfg τ sig (Lab (F := F)) 1 := sc (F := F)
/-- The kernels' bodies. -/
abbrev bodies [FloatOps F] : Defs nD τ sig (Elt F) (Lab (F := F)) := Pipeline.defs pcfgs defs₀
/-- No kernel calls another. -/
abbrev vars₀ : Variants := Variants.none
abbrev vars : Variants := vars₀.lift
abbrev top : vars.V := Sum.inl none

/-- The call's four launch semaphores are told apart and none is a kernel's own; no buffer is given out task by task. -/
theorem callFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the launch's rounds, and the counters of the transfers in flight. -/
abbrev Ghost : Type := URounds (GSem nD τ sig) ℕ × Counters

local notation "𝕄" => MT nD τ sig (HIx 1) (Elt F) ℕ Ghost ℕ

abbrev roundsIn : Emb (URounds (GSem nD τ sig) ℕ) 𝕄 := embL

/-! ## The arrays and the buffers -/

/-- The row numbers, the table and the output of device `d`. -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- The same three as a vector subcore names them, and its two scratch buffers: the list of its row numbers, its rows. -/
abbrev iM : Memref sig .scVector .hbm S16384 .i32 := Memref.whole main_arg0_scv
abbrev xM : Memref sig .scVector .hbm S8193x128 .f32 := Memref.whole main_arg1_scv
abbrev oM : Memref sig .scVector .hbm S16384x128 .f32 := Memref.whole main_v0_scv
abbrev listM : Memref sig .scVector .vmem S512 .i32 := Memref.whole cc0_scratch0
abbrev rowsM : Memref sig .scVector .vmem S512x128 .f32 := Memref.whole cc0_scratch1

/-! ## The value -/

/-- The table's cell in lane `l` of the row a word names; a word above the last row names the last row. -/
def cell (w : BitVec 32) (l : Fin 128) : S8193x128.Idx
  | 0 => ⟨min w.toNat 8192, Nat.lt_of_le_of_lt (Nat.min_le_right _ _) (by decide)⟩
  | 1 => l
  | ⟨_ + 2, h⟩ => absurd h (Nat.not_lt.2 (Nat.le_add_left _ _))

/-- The index `k` of a list of `n`. -/
def ix {n : ℕ} (k : Fin n) : (⟨1, ![n]⟩ : Shape).Idx := fun a => ⟨k.val, by rw [Subsingleton.elim a 0]; exact k.isLt⟩

/-- Row `r` of the output is the table's row that the `r`-th row number names. -/
def lookup {α : Type} (x : S16384.Idx → BitVec 32) (pe : S8193x128.Idx → α) : S16384x128.Idx → α :=
  fun p => pe (cell (x (ix (p 0))) (p 1))

/-- The same over one subcore's 512 row numbers. -/
def lookupBlock {α : Type} (x : S512.Idx → BitVec 32) (pe : S8193x128.Idx → α) : S512x128.Idx → α :=
  fun p => pe (cell (x (ix (p 0))) (p 1))

/-- Two cells agree when their coordinates do. -/
theorem eq_cell {w : BitVec 32} (h : w.toNat < 8193) {l : Fin 128} {z : S8193x128.Idx} (h0 : (z 0).val = w.toNat) (h1 : (z 1).val = l.val) :
    z = cell w l := by
  funext b
  match b with
  | 0 => exact Fin.ext (h0.trans (by show _ = min w.toNat 8192; omega))
  | 1 => exact Fin.ext h1

variable (m : (ℓ : Loc nD τ sig) → Buf (Elt F) ℓ)

/-- What the proof asks of the launch memory: every row number is a row of the table. -/
def InRange : Prop := ∀ (d : Dev nD) (j : S16384.Idx), (m (iLoc d) j : BitVec 32).toNat < 8193

/-- The output's final contents. -/
abbrev result (d : Dev nD) : Buf (Elt F) (oLoc d) := lookup (m (iLoc d)) (m (xLoc d))

end Cert.Proof.Lookup

end
-- ==== Proof.Gathers.lean ====
/-
  One subcore's four gathers.

  A subcore cuts its list of 512 row numbers into four of 128 and starts one indirect gather for each, all four on one
  semaphore; gather `t` fills rows `128 t … 128 t + 127` of the rows buffer. The 512 rows are one batch
  (StreamBatch.lean). This module says what each of them brings back (`landed`), starts gather `t` (`start_block`), and
  reads the buffer once all have come: row `r` is the table's row that the list's entry `r` names (`all_landed`).
-/
module

public import proofs.«01_k».proof.Proof.Setup
public import Idealize.ShloMosaic.Lib.VecWindow

@[expose] public section

noncomputable section

namespace Cert.Proof.Lookup

open Cert.KernelIdeal Cert.KernelIdeal.Gen
open Cert.Proof.Streams
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)

variable {F : FTy → Type}

local notation "𝕄" => MT nD τ sig (HIx 1) (Elt F) ℕ Ghost ℕ

/-! ## The blocks -/

theorem rows_inb (t : Fin 4) : ∀ a, (![128 * t.val, 0] : Fin 2 → ℕ) a + S128x128.size a ≤ S512x128.size a := by
  revert t; decide
theorem list_inb (t : Fin 4) : ∀ a, (![128 * t.val] : Fin 1 → ℕ) a + S128.size a ≤ S512.size a := by
  revert t; decide

/-- Block `t` of the rows buffer, block `t` of the list, and the table, as gather `t` names them. -/
abbrev rowsB (t : Fin 4) : Memref sig .scVector .vmem S128x128 .f32 :=
  rowsM.slice (Rect.unit (s := S512x128) ![128 * t.val, 0] S128x128.size (rows_inb t)) (fun _ => rfl)
abbrev listB (t : Fin 4) : Memref sig .scVector .vmem S128 .i32 :=
  listM.slice (Rect.unit (s := S512) ![128 * t.val] S128.size (list_inb t)) (fun _ => rfl)
abbrev tableM : Memref sig .scVector .hbm S8193x128 .f32 :=
  xM.slice (Rect.unit (s := S8193x128) ![0, 0] S8193x128.size inb_S8193x128_S8193x128_0_0) (fun _ => rfl)

/-- The cells of the rows buffer and the entries of the list in block `t`. -/
abbrev rowsSet (t : Fin 4) : Finset S512x128.Idx := (rowsB t).view.set
abbrev listSet (t : Fin 4) : Finset S512.Idx := (listB t).view.set

theorem rowsB_set (t : Fin 4) : (rowsB t).view.set = (Rect.unit (s := S512x128) ![128 * t.val, 0] S128x128.size (rows_inb t)).set :=
  View.set_slice_whole (κ := .scVector) cc0_scratch1 _
theorem listB_set (t : Fin 4) : (listB t).view.set = (Rect.unit (s := S512) ![128 * t.val] S128.size (list_inb t)).set :=
  View.set_slice_whole (κ := .scVector) cc0_scratch0 _

/-- A cell of the rows buffer is in block `t` when its row is. -/
theorem mem_rowsB (t : Fin 4) (p : S512x128.Idx) : p ∈ (rowsB t).view.set ↔ 128 * t.val ≤ (p 0).val ∧ (p 0).val < 128 * t.val + 128 := by
  rw [rowsB_set]
  refine Rect.mem_set_unit.trans ⟨fun h => h 0, fun h a => ?_⟩
  match a with
  | 0 => exact h
  | 1 => exact ⟨Nat.zero_le _, by show (p 1).val < 0 + 128; have : (p 1).val < 128 := (p 1).isLt; omega⟩
/-- An entry of the list is in block `t` when its place is. -/
theorem mem_listB (t : Fin 4) (p : S512.Idx) : p ∈ (listB t).view.set ↔ 128 * t.val ≤ (p 0).val ∧ (p 0).val < 128 * t.val + 128 := by
  rw [listB_set]
  refine Rect.mem_set_unit.trans ⟨fun h => h 0, fun h a => ?_⟩
  match a with
  | 0 => exact h

/-- The gathers read the whole table. -/
theorem tableM_set : tableM.view.set = Finset.univ := by
  refine (View.set_slice_whole (κ := .scVector) main_arg1_scv _).trans (Finset.eq_univ_iff_forall.mpr fun p => Rect.mem_set_unit.mpr fun a => ?_)
  match a with
  | 0 => exact ⟨Nat.zero_le _, by show (p 0).val < 0 + 8193; have : (p 0).val < 8193 := (p 0).isLt; omega⟩
  | 1 => exact ⟨Nat.zero_le _, by show (p 1).val < 0 + 128; have : (p 1).val < 128 := (p 1).isLt; omega⟩

theorem rowsB_apart : ∀ t ∈ (Finset.univ : Finset (Fin 4)), ∀ t' ∈ (Finset.univ : Finset (Fin 4)), t ≠ t' → Disjoint (rowsSet t) (rowsSet t') :=
  fun t _ t' _ h => Finset.disjoint_left.mpr fun p hp hp' => h (Fin.ext (by
    have h1 := (mem_rowsB t p).mp hp; have h2 := (mem_rowsB t' p).mp hp'; omega))
theorem listB_apart : ∀ t ∈ (Finset.univ : Finset (Fin 4)), ∀ t' ∈ (Finset.univ : Finset (Fin 4)), t ≠ t' → Disjoint (listSet t) (listSet t') :=
  fun t _ t' _ h => Finset.disjoint_left.mpr fun p hp hp' => h (Fin.ext (by
    have h1 := (mem_listB t p).mp hp; have h2 := (mem_listB t' p).mp hp'; omega))
theorem rowsB_cover : (Finset.univ : Finset (Fin 4)).biUnion rowsSet = Finset.univ :=
  Finset.eq_univ_iff_forall.mpr fun p => by
    have hp : (p 0).val < 512 := (p 0).isLt
    have hb : (p 0).val / 128 < 4 := by omega
    refine Finset.mem_biUnion.mpr ⟨⟨(p 0).val / 128, hb⟩, Finset.mem_univ _, (mem_rowsB ⟨(p 0).val / 128, hb⟩ p).mpr ?_⟩
    show 128 * ((p 0).val / 128) ≤ (p 0).val ∧ (p 0).val < 128 * ((p 0).val / 128) + 128
    omega
theorem listB_cover : (Finset.univ : Finset (Fin 4)).biUnion listSet = Finset.univ :=
  Finset.eq_univ_iff_forall.mpr fun p => by
    have hp : (p 0).val < 512 := (p 0).isLt
    have hb : (p 0).val / 128 < 4 := by omega
    refine Finset.mem_biUnion.mpr ⟨⟨(p 0).val / 128, hb⟩, Finset.mem_univ _, (mem_listB ⟨(p 0).val / 128, hb⟩ p).mpr ?_⟩
    show 128 * ((p 0).val / 128) ≤ (p 0).val ∧ (p 0).val < 128 * ((p 0).val / 128) + 128
    omega

/-! ## What the rows bring back -/

/-- The units one row of 128 words is worth on the semaphore. -/
def rowUnits : ℕ := (rowsB 0).view.dmaCredit / 128

theorem row_units (t : Fin 4) (j : Fin (S128x128.size gathers_S8193x128_S128x128.axis')) :
    ((rowsB t).slice (S128x128.rowRect gathers_S8193x128_S128x128.axis' j) (S128x128.stride_rowRect gathers_S8193x128_S128x128.axis' j)).view.dmaCredit = rowUnits := by
  revert t j; decide
theorem block_units (t : Fin 4) : (rowsB t).view.dmaCredit = 128 * rowUnits := by revert t; decide
theorem rowUnits_pos : 0 < rowUnits := by decide

section Tile

variable (c : Fin τ.nSC) (i : Fin τ.nSub) (d : Dev nD)
/-- The two scratch buffers of vector subcore `(c, i)` of device `d`. -/
abbrev rLoc : Loc nD τ sig := (V d c i).loc cc0_scratch1
abbrev lLoc : Loc nD τ sig := (V d c i).loc cc0_scratch0

variable (q : PosShare TreeShare) (fs : S8193x128.Idx → Elt F .f32) (fo : S512.Idx → BitVec 32) (fd : S512x128.Idx → Elt F .f32)

/-- Every row number of the list is a row of the table. -/
def ListOK : Prop := ∀ k, (fo k).toNat < 8193

variable {fo} in
theorem ListOK.block (h : ListOK fo) (t : Fin 4) (y : S128.Idx) :
    ((listB t).view.read (Elt F) fo y).toNat < S8193x128.size gathers_S8193x128_S128x128.axis := h _

/-- What gather `t` needs for its row `j`. -/
abbrev need (t : Fin 4) (j : Fin 128) : sProp 𝕄 :=
  rowIn (V d c i) tableM (rowsB t) gathers_S8193x128_S128x128 (listB t) rfl (by decide) (pieceOf q 4 (by decide) t) fullShare fs fd fo j

/-- What gather `t` brings back for its row `j`. -/
abbrev back (h : ListOK fo) (t : Fin 4) (j : Fin 128) : sProp 𝕄 :=
  rowOut (V d c i) tableM (rowsB t) gathers_S8193x128_S128x128 (listB t) rfl (by decide) (pieceOf q 4 (by decide) t) fullShare fs fd fo
    (SparseCore.rows ((listB t).view.read (Elt F) fo) rfl (h.block t)) j

/-- What row `r` of the 512 brings back: row `r % 128` of gather `r / 128`. -/
def landed (h : ListOK fo) (r : Fin 512) : sProp 𝕄 :=
  back c i d q fs fo fd h ⟨r.val / 128, by omega⟩ ⟨r.val % 128, Nat.mod_lt _ (by decide)⟩

instance landed_storable (h : ListOK fo) (r : Fin 512) : Storable (upEmb : UEmb _ 𝕄) (landed c i d q fs fo fd h r) := by
  unfold landed; exact rowOut_storable ..

theorem block_le (t : Fin 4) : 128 * t.val + 128 ≤ 512 := by omega

/-- Row `j` of gather `t` is row `128 t + j` of the batch. -/
theorem landed_nth (h : ListOK fo) (t : Fin 4) (j : Fin 128) : landed c i d q fs fo fd h (nth (128 * t.val) (block_le t) j) = back c i d q fs fo fd h t j := by
  have h1 : (⟨(nth (128 * t.val) (block_le t) j).val / 128, by omega⟩ : Fin 4) = t := Fin.ext (by simp only [nth]; omega)
  have h2 : (⟨(nth (128 * t.val) (block_le t) j).val % 128, Nat.mod_lt _ (by decide)⟩ : Fin 128) = j := Fin.ext (by simp only [nth]; omega)
  unfold landed
  rw [h1, h2]

/-- The rows buffer is its four blocks. -/
theorem rows_blocks (f : Buf (Elt F) (rLoc c i d)) :
    (rLoc c i d ↦{fullShare} f : sProp 𝕄) = bigSep Finset.univ fun t : Fin 4 => rLoc c i d ↦[rowsSet t]{fullShare} f := by
  rw [← pointsTo_biUnion Finset.univ (ℓ := rLoc c i d) rowsSet rowsB_apart, rowsB_cover]; try rfl
/-- The list is its four blocks. -/
theorem list_blocks (f : Buf (Elt F) (lLoc c i d)) :
    (lLoc c i d ↦{fullShare} f : sProp 𝕄) = bigSep Finset.univ fun t : Fin 4 => lLoc c i d ↦[listSet t]{fullShare} f := by
  rw [← pointsTo_biUnion Finset.univ (ℓ := lLoc c i d) listSet listB_apart, listB_cover]; try rfl
/-- A share of the table is its four pieces, each read through the view the gathers use. -/
theorem table_pieces (f : Buf (Elt F) (xLoc d)) :
    (xLoc d ↦{q} f : sProp 𝕄)
      = bigSep Finset.univ fun t : Fin 4 => xLoc d ↦[tableM.view.set]{pieceOf q 4 (by decide) t} f := by
  rw [tableM_set]; exact pointsTo_piecesOf _ _ (by decide) q

/-- A family over four is its four members. -/
theorem four (Φ : Fin 4 → sProp 𝕄) : bigSep Finset.univ Φ = iprop(Φ 0 ∗ Φ 1 ∗ Φ 2 ∗ Φ 3) := by
  rw [show (Finset.univ : Finset (Fin 4)) = {0, 1, 2, 3} from by decide, SparseCore.bigSep_insert' (by decide), SparseCore.bigSep_insert' (by decide),
    SparseCore.bigSep_insert' (by decide), bigSep_singleton]

/-- A share of the table, the rows buffer and the list are what the four gathers need. -/
theorem all_needed :
    iprop((xLoc d ↦{q} fs) ∗ (rLoc c i d ↦{fullShare} fd) ∗ (lLoc c i d ↦{fullShare} fo))
      ⊢ (bigSep Finset.univ fun t : Fin 4 => bigSep Finset.univ fun j : Fin 128 => need c i d q fs fo fd t j : sProp 𝕄) := by
  have h1 : iprop((xLoc d ↦{q} fs) ∗ (rLoc c i d ↦{fullShare} fd) ∗ (lLoc c i d ↦{fullShare} fo))
      ⊢ (bigSep Finset.univ fun t : Fin 4 => iprop((xLoc d ↦[tableM.view.set]{pieceOf q 4 (by decide) t} fs)
          ∗ (rLoc c i d ↦[rowsSet t]{fullShare} fd) ∗ (lLoc c i d ↦[listSet t]{fullShare} fo)) : sProp 𝕄) := by
    rw [table_pieces, rows_blocks, list_blocks, bigSep_sep', bigSep_sep']
  exact h1.trans (bigSep_mono fun t _ => rows_split (V d c i) tableM (rowsB t) gathers_S8193x128_S128x128 (listB t) rfl (by decide)
    (pieceOf q 4 (by decide) t) fullShare fs fd fo)

/-- What gather `t` writes into its block is the lookup of the list's row numbers in the table. -/
theorem block_value (h : ListOK fo) (t : Fin 4) (p : S512x128.Idx) (hp : p ∈ (rowsB t).view.set) :
    (rowsB t).view.write (Elt F) fd (SparseCore.gatherPayload gathers_S8193x128_S128x128 (tableM.view.read (Elt F) fs)
      (SparseCore.rows ((listB t).view.read (Elt F) fo) rfl (h.block t))) Finset.univ p = lookupBlock fo fs p := by
  obtain ⟨y, -, rfl⟩ := Finset.mem_map.mp hp
  rw [View.write_emb_of_mem _ _ (Finset.mem_univ y)]
  have hsym : ((S128.rowMajor.symm ((y gathers_S8193x128_S128x128.axis').cast rfl)) 0).val = (y 0).val := by
    rw [← Shape.rowMajor_val_one (S128.rowMajor.symm _), Equiv.apply_symm_apply]; rfl
  have hentry : (listB t).view.emb (S128.rowMajor.symm ((y gathers_S8193x128_S128x128.axis').cast rfl)) = ix ((rowsB t).view.emb y 0) := by
    funext a
    obtain rfl : a = 0 := Fin.ext (by have h1 : a.val < 1 := a.isLt; show a.val = 0; omega)
    apply Fin.ext
    show 128 * t.val + 1 * ((S128.rowMajor.symm ((y gathers_S8193x128_S128x128.axis').cast rfl)) 0).val = 128 * t.val + 1 * (y 0).val
    rw [hsym]
  show fs _ = fs (cell _ _)
  refine congrArg fs (eq_cell (h _) ?_ ?_)
  · show 0 + 1 * (gathers_S8193x128_S128x128.idx _ y gathers_S8193x128_S128x128.axis).val = _
    rw [Shape.Gathers.idx_axis, Nat.zero_add, Nat.one_mul]
    exact congrArg (fun z => (fo z).toNat) hentry
  · show 0 + 1 * (gathers_S8193x128_S128x128.idx _ y 1).val = _
    rw [Shape.Gathers.idx_of_ne _ _ _ 1 (by decide)]
    show 0 + 1 * (y 1).val = 0 + 1 * (y 1).val
    rfl

/-- The 512 rows are the four gathers' rows. -/
theorem landed_blocks (h : ListOK fo) :
    bigSep Finset.univ (landed c i d q fs fo fd h)
      = (bigSep Finset.univ fun t : Fin 4 => bigSep Finset.univ fun j : Fin 128 => back c i d q fs fo fd h t j : sProp 𝕄) := by
  rw [bigSep_univ_equiv ((finProdFinEquiv (m := 4) (n := 128)).trans (finCongr rfl)), bigSep_univ_prod]
  refine bigSep_congr fun t _ => bigSep_congr fun j _ => ?_
  rw [← landed_nth]
  exact congrArg _ (Fin.ext (by show j.val + 128 * t.val = 128 * t.val + j.val; omega))

/-- When every row of every gather has come, the rows buffer holds the lookup, and the table's share and the list are back. -/
theorem all_landed (h : ListOK fo) :
    bigSep Finset.univ (landed c i d q fs fo fd h)
      ⊢ (iprop((xLoc d ↦{q} fs) ∗ (rLoc c i d ↦{fullShare} lookupBlock fo fs) ∗ (lLoc c i d ↦{fullShare} fo)) : sProp 𝕄) := by
  have h1 : (bigSep Finset.univ fun t : Fin 4 => bigSep Finset.univ fun j : Fin 128 => back c i d q fs fo fd h t j : sProp 𝕄)
      ⊢ (bigSep Finset.univ fun t : Fin 4 => iprop((xLoc d ↦[tableM.view.set]{pieceOf q 4 (by decide) t} fs)
          ∗ (rLoc c i d ↦[rowsSet t]{fullShare} lookupBlock fo fs) ∗ (lLoc c i d ↦[listSet t]{fullShare} fo)) : sProp 𝕄) :=
    bigSep_mono fun t _ => by
      rw [← pointsTo_congr (ℓ := rLoc c i d) (block_value fs fo fd h t)]
      exact rows_join (V d c i) tableM (rowsB t) gathers_S8193x128_S128x128 (listB t) rfl (by decide)
        (pieceOf q 4 (by decide) t) fullShare fs fd fo _
  rw [landed_blocks, table_pieces, rows_blocks, list_blocks]
  rw [bigSep_sep', bigSep_sep'] at h1
  exact h1

variable [FloatOps F]

/-- Starting gather `t`: its rows become rows `128 t … 128 t + 127` of the batch. -/
theorem start_block {α : Type} {Q : α → sProp (MT nD τ sig (HIx 1) (Elt F) ℕ Ghost ℕ)} (h : ListOK fo) (t : Fin 4) {hp : (V d c i).2.kind = .scVector} {hsrc : tableM.view.WordExact} {he : EltTy.f32.bits = 32}
    {hsp : Space.hbm = .hbm ∨ Space.hbm = .shared} {hr : S8193x128.StreamRows 0}
    {k : PUnit → Prog (TpuEff nD τ sig (Elt F) Λ₀ (V d c i).2) α} :
    iprop((bigSep Finset.univ fun j : Fin 128 => need c i d q fs fo fd t j)
        ∗ Batch (countersEmb : UEmb Counters 𝕄) (V d c i) (.dma cc0_scratch2.sem) default rowUnits (landed c i d q fs fo fd h) (128 * t.val) 0)
      ⊢ iprop((Batch (countersEmb : UEmb Counters 𝕄) (V d c i) (.dma cc0_scratch2.sem) default rowUnits (landed c i d q fs fo fd h) (128 * t.val + 128) 0
            -∗ wp frame (wpE (defs₀ (F := F)) vars₀ (V d c i) none) Set.univ (k ⟨⟩) Q)
          -∗ wp frame (wpE (defs₀ (F := F)) vars₀ (V d c i) none) Set.univ
            (SparseCore.enqueueIndirectGather hp tableM (rowsB t) gathers_S8193x128_S128x128 (listB t) rfl cc0_scratch2.sem hsrc he hsp hr >>= k) Q) :=
  start_gather (countersEmb : UEmb Counters 𝕄) vars₀ (V d c i) none tableM (rowsB t) gathers_S8193x128_S128x128 (listB t) rfl (by decide)
    (pieceOf q 4 (by decide) t) fullShare fs fd fo default rowUnits (D := landed c i d q fs fo fd h) (block_le t) (Nat.zero_le _)
    (row_units t) (h.block t) fun j => Entails.of_eq (landed_nth c i d q fs fo fd h t j).symm

/-- The wait for gather `t`, all four started: it takes 128 rows' units off the semaphore, and says nothing of which rows. -/
theorem wait_block {α : Type} {Q : α → sProp (MT nD τ sig (HIx 1) (Elt F) ℕ Ghost ℕ)} (h : ListOK fo) (t : Fin 4) (n : ℕ) (hn : n < 4)
    {hsrc : tableM.view.WordExact} {hdst : (rowsB t).view.WordExact} {O : CellTallies nD τ sig (HIx 1)} {W : Waits sig (HIx 1)}
    {k : PUnit → Prog (TpuEff nD τ sig (Elt F) Λ₀ (V d c i).2) α} :
    iprop(Batch (countersEmb : UEmb Counters 𝕄) (V d c i) (.dma cc0_scratch2.sem) default rowUnits (landed c i d q fs fo fd h) 512 (128 * rowUnits * n)
        ∗ owes (V d c i) O W ∗ MayWait (V d c i) (.dma cc0_scratch2.sem) default O)
      ⊢ iprop((iprop(Batch (countersEmb : UEmb Counters 𝕄) (V d c i) (.dma cc0_scratch2.sem) default rowUnits (landed c i d q fs fo fd h) 512 (128 * rowUnits * (n + 1))
              ∗ owes (V d c i) O (insert (SemLoc.dma cc0_scratch2.sem, default) W))
            -∗ wp frame (wpE (defs₀ (F := F)) vars₀ (V d c i) none) Set.univ (k ⟨⟩) Q)
          -∗ wp frame (wpE (defs₀ (F := F)) vars₀ (V d c i) none) Set.univ
            (SparseCore.waitIndirectGather cc0_scratch2.sem tableM (rowsB t) hsrc hdst >>= k) Q) := by
  have hle : 128 * rowUnits * n + 128 * rowUnits ≤ rowUnits * 512 := by
    calc 128 * rowUnits * n + 128 * rowUnits = 128 * rowUnits * (n + 1) := (Nat.mul_succ _ _).symm
      _ ≤ 128 * rowUnits * 4 := Nat.mul_le_mul_left _ hn
      _ = rowUnits * 512 := by omega
  rw [Nat.mul_succ]
  exact Transfers.wp_waitBatchMulO (countersEmb : UEmb Counters 𝕄) vars₀ (V d c i) none (srcw := tableM) (dstw := rowsB t) (hsrc := hsrc) (hdst := hdst)
    default 128 (block_units t) hle

omit [FloatOps F] in
/-- After the four waits every row has come: the rows buffer holds the lookup, and the semaphore is back at zero. -/
theorem collect (h : ListOK fo) :
    Batch (countersEmb : UEmb Counters 𝕄) (V d c i) (.dma cc0_scratch2.sem) default rowUnits (landed c i d q fs fo fd h) 512 (128 * rowUnits * (3 + 1))
      ⊢ (|={Set.univ}=> iprop((xLoc d ↦{q} fs) ∗ (rLoc c i d ↦{fullShare} lookupBlock fo fs) ∗ (lLoc c i d ↦{fullShare} fo)
          ∗ semVal (V d c i, .dma cc0_scratch2.sem) 0) : sProp 𝕄) := by
  rw [show 128 * rowUnits * (3 + 1) = rowUnits * 512 by omega]
  iintro H
  imod (Transfers.batch_collect' (countersEmb : UEmb Counters 𝕄) (V d c i) rowUnits_pos) $$ H with ⟨HD, Hv⟩
  imodintro
  ihave HD' := (all_landed c i d q fs fo fd h) $$ HD
  icases HD' with ⟨Hx, Hr, Hl⟩
  isplitl [Hx]; · iexact Hx
  isplitl [Hr]; · iexact Hr
  isplitl [Hl]; · iexact Hl
  iexact Hv

end Tile

end Cert.Proof.Lookup

end
-- ==== Proof.Task.lean ====
/-
  One subcore's task.

  Subcore `s` of core `c` works on block `w = 2 s + c` of the row numbers and of the output: it copies its 512 row
  numbers into its list, gathers the 512 rows of the table they name into its rows buffer (Gathers.lean), and copies
  the buffer to its 512 rows of the output. `tile_body` runs the task; `out_value` says that what it leaves in the
  output is the lookup's block.
-/
module

public import proofs.«01_k».proof.Proof.Gathers

@[expose] public section

noncomputable section

namespace Cert.Proof.Lookup

open Cert.KernelIdeal Cert.KernelIdeal.Gen
open Cert.Proof.Streams
open Idealize.ShloMosaic
open Idealize.ShloMosaic.SparseCore (V)
open Idealize.ShloMosaic.SparseCore.Cfg (HIx ownSems0 ownBufs ownRefs ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)

variable {F : FTy → Type}

local notation "𝕄" => MT nD τ sig (HIx 1) (Elt F) ℕ Ghost ℕ

/-! ## The blocks of the arrays -/

/-- The row numbers and the output's cells of block `w`. -/
def iSet (w : Fin 32) : Finset S16384.Idx := Finset.univ.filter fun p => (p 0).val / 512 = w.val
def oSet (w : Fin 32) : Finset S16384x128.Idx := Finset.univ.filter fun p => (p 0).val / 512 = w.val

/-- The block the subcore at a place of the grid works on. -/
def block (L : grid0.Coords) : Fin 32 := ⟨2 * (L 1).val + (L 0).val, by
  have h0 : (L 0).val < 2 := (L 0).isLt; have h1 : (L 1).val < 16 := (L 1).isLt; omega⟩

/-- The subcore's block of the row numbers and of the output, as the task names them. -/
abbrev iB (L : grid0.Coords) : Memref sig .scVector .hbm S512 .i32 :=
  iM.slice (Rect.unit (s := S16384) (k0_off1 L) S512.size (k0_off1_inb L)) (fun _ => rfl)
abbrev oB (L : grid0.Coords) : Memref sig .scVector .hbm S512x128 .f32 :=
  oM.slice (Rect.unit (s := S16384x128) (k0_off2 L) S512x128.size (k0_off2_inb L)) (fun _ => rfl)

theorem off1_val (L : grid0.Coords) : k0_off1 L 0 = 512 * (block L).val := by
  rw [k0_off1_eq]; show 1024 * (L 1).val + 512 * (L 0).val = 512 * (2 * (L 1).val + (L 0).val); omega
theorem off2_val (L : grid0.Coords) : k0_off2 L 0 = 512 * (block L).val := by
  rw [k0_off2_eq]; show 1024 * (L 1).val + 512 * (L 0).val = 512 * (2 * (L 1).val + (L 0).val); omega
theorem off2_lane (L : grid0.Coords) : k0_off2 L 1 = 0 := by rw [k0_off2_eq]; rfl

theorem iB_set (L : grid0.Coords) : (iB L).view.set = iSet (block L) := by
  refine (View.set_slice_whole (κ := .scVector) main_arg0_scv _).trans (Finset.ext fun p => Rect.mem_set_unit.trans ?_)
  rw [iSet, Finset.mem_filter]
  constructor
  · intro h
    have h0 : k0_off1 L 0 ≤ (p 0).val ∧ (p 0).val < k0_off1 L 0 + 512 := h 0
    rw [off1_val] at h0
    exact ⟨Finset.mem_univ _, by omega⟩
  · rintro ⟨-, h⟩ a
    obtain rfl : a = 0 := Fin.ext (by have h1 : a.val < 1 := a.isLt; show a.val = 0; omega)
    show k0_off1 L 0 ≤ (p 0).val ∧ (p 0).val < k0_off1 L 0 + 512
    rw [off1_val]; omega
theorem oB_set (L : grid0.Coords) : (oB L).view.set = oSet (block L) := by
  refine (View.set_slice_whole (κ := .scVector) main_v0_scv _).trans (Finset.ext fun p => Rect.mem_set_unit.trans ?_)
  rw [oSet, Finset.mem_filter]
  constructor
  · intro h
    have h0 : k0_off2 L 0 ≤ (p 0).val ∧ (p 0).val < k0_off2 L 0 + 512 := h 0
    rw [off2_val] at h0
    exact ⟨Finset.mem_univ _, by omega⟩
  · rintro ⟨-, h⟩ a
    match a with
    | 0 =>
      show k0_off2 L 0 ≤ (p 0).val ∧ (p 0).val < k0_off2 L 0 + 512
      rw [off2_val]; omega
    | 1 =>
      show k0_off2 L 1 ≤ (p 1).val ∧ (p 1).val < k0_off2 L 1 + 128
      have : (p 1).val < 128 := (p 1).isLt
      rw [off2_lane]; omega

/-! ## The value -/

/-- The output written with the lookup of the block's row numbers is, on the block, the lookup of all of them. -/
theorem out_value (L : grid0.Coords) (x : S16384.Idx → BitVec 32) (pe : S8193x128.Idx → Elt F .f32) (f : S16384x128.Idx → Elt F .f32)
    (p : S16384x128.Idx) (hp : p ∈ (oB L).view.set) :
    (oB L).view.write (Elt F) f (lookupBlock ((iB L).view.read (Elt F) x) pe) Finset.univ p = lookup x pe p := by
  obtain ⟨y, -, rfl⟩ := Finset.mem_map.mp hp
  rw [View.write_emb_of_mem _ _ (Finset.mem_univ y)]
  have hrow : (iB L).view.emb (ix (y 0)) = ix ((oB L).view.emb y 0) := by
    funext a
    obtain rfl : a = 0 := Fin.ext (by have h1 : a.val < 1 := a.isLt; show a.val = 0; omega)
    apply Fin.ext
    show k0_off1 L 0 + 1 * (y 0).val = k0_off2 L 0 + 1 * (y 0).val
    rw [off1_val, off2_val]
  have hlane : (oB L).view.emb y 1 = y 1 := Fin.ext (by show k0_off2 L 1 + 1 * (y 1).val = (y 1).val; rw [off2_lane]; omega)
  show pe (cell (x ((iB L).view.emb (ix (y 0)))) (y 1)) = pe (cell (x (ix ((oB L).view.emb y 0))) ((oB L).view.emb y 1))
  rw [hrow, hlane]; rfl

/-! ## The subcore's own buffers and semaphores -/

variable (m : (ℓ : Loc nD τ sig) → Buf (Elt F) ℓ) (d : Dev nD) (L : grid0.Coords)

abbrev cV : Fin τ.nSC := (L 0).castLE hcore0
abbrev jV : Fin τ.nSub := (L 1).castLE hsub0

/-- The three semaphores of the task: the copy in, the copy out, the gathers. -/
abbrev inCell : GSem nD τ sig := (V d (cV L) (jV L), .dma cc0_scoped0.sem)
abbrev outCell : GSem nD τ sig := (V d (cV L) (jV L), .dma cc0_scoped1.sem)
abbrev gatherCell : GSem nD τ sig := (V d (cV L) (jV L), .dma cc0_scratch2.sem)

/-- The subcore's semaphores, all at zero, are these three and the rest. -/
theorem ownSems0_task :
    (ownSems0 (V d (cV L) (jV L)) : sProp 𝕄)
      = iprop(semVal (inCell d L) 0 ∗ semVal (outCell d L) 0 ∗ semVal (gatherCell d L) 0
          ∗ bigSep ((((ownCells (V d (cV L) (jV L))).erase (inCell d L)).erase (outCell d L)).erase (gatherCell d L)) fun g => semVal g 0) := by
  unfold SparseCore.Cfg.ownSems0
  rw [SparseCore.bigSep_erase' ((mem_ownCells (g := inCell d L)).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d L)).mpr ⟨rfl, by
      show (SemLoc.dma cc0_scoped1.sem : SemLoc sig).isScoped .scVector = true; decide⟩⟩),
    SparseCore.bigSep_erase' (Finset.mem_erase.mpr ⟨by simp [outCell, gatherCell]; decide, Finset.mem_erase.mpr ⟨by simp [inCell, gatherCell]; decide,
      (mem_ownCells (g := gatherCell d L)).mpr ⟨rfl, by show (SemLoc.dma cc0_scratch2.sem : SemLoc sig).isScoped .scVector = true; decide⟩⟩⟩)]

/-- The subcore's buffers are the list, the rows buffer and the rest. -/
theorem ownBufs_task :
    (ownBufs (V d (cV L) (jV L)) : sProp 𝕄)
      = iprop((∃ f, lLoc (cV L) (jV L) d ↦{fullShare} f) ∗ (∃ f, rLoc (cV L) (jV L) d ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task -/

/-- What a task is handed: its block of the row numbers, its share of the table, and its block of the output at `f`. -/
def taskPts (w : Fin 32) (f : Buf (Elt F) (oLoc d)) : sProp 𝕄 :=
  iprop((iLoc d ↦[iSet w]{fullShare} m (iLoc d)) ∗ (xLoc d ↦{pieceOf fullShare 32 (by decide) w} m (xLoc d)) ∗ (oLoc d ↦[oSet w]{fullShare} f))

variable [FloatOps F]

set_option maxHeartbeats 4000000 in
/-- The task on the subcore at `L`: it ends with its block of the output at the lookup. -/
theorem tile_body (hF : (K (F := F)).Facts) (hpre : InRange m) (O : CellTallies nD τ sig (HIx 1)) (W : Waits sig (HIx 1)) (hO : ∀ g, O g none = 0) :
    iprop(levAts (K (F := F)).L (K (F := F)).lev ∗ emp
        ∗ taskPts m d (block L) (m (oLoc d))
        ∗ scopedBufs (V d (cV L) (jV L)) ∗ scopedSems0 (V d (cV L) (jV L)) ∗ owes (V d (cV L) (jV L)) O W)
      ⊢ wp frame (wpE (defs₀ (F := F)) vars₀ (V d (cV L) (jV L)) none) Set.univ
          (cc0_lookup L iM (Memref.isWhole_whole _) xM (Memref.isWhole_whole _) oM (Memref.isWhole_whole _)
            listM (Memref.isWhole_whole _) rowsM (Memref.isWhole_whole _) cc0_scratch2 cc0_scoped0 cc0_scoped1)
          fun _ => iprop(taskPts m d (block L) (result m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_lookup_eq_skeleton]; unfold cc0_lookup_skel
  simp only [k0_part1_eq_skeleton]; unfold k0_part1_skel
  simp only [bind_assoc, pure_bind]
  unfold taskPts
  rw [(K (F := F)).scopedBufs_V hF d (cV L) (jV L), SparseCore.Cfg.scopedSems0_V (Val := Elt F) d (cV L) (jV L), ownSems0_task, ownBufs_task]
  iintro ⟨#Hlv, -, ⟨Hi, Hx, Ho⟩, ⟨⟨%fl, Hl⟩, ⟨%fr, Hr⟩, Hbufs⟩, ⟨HsemI, HsemO, HsemG, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (show (iLoc d ↦[iSet (block L)]{fullShare} m (iLoc d) : sProp 𝕄)
      ⊢ (iB L).view.loc (V d (cV L) (jV L)) ↦[(iB L).view.set]{fullShare} m (iLoc d) from Entails.of_eq (by rw [iB_set])) $$ Hi
  ihave Ho' := (show (oLoc d ↦[oSet (block L)]{fullShare} m (oLoc d) : sProp 𝕄)
      ⊢ (oB L).view.loc (V d (cV L) (jV L)) ↦[(oB L).view.set]{fullShare} m (oLoc d) from Entails.of_eq (by rw [oB_set])) $$ Ho
  ihave Hl' := (show (lLoc (cV L) (jV L) d ↦{fullShare} fl : sProp 𝕄) ⊢ listM.view.loc (V d (cV L) (jV L)) ↦{fullShare} fl from Entails.of_eq rfl) $$ Hl
  sl_exec
  -- The list now holds the block's row numbers.
  have hlist : View.write (Elt F) listM.view fl (tile_body.sl.dma0 m d L) Finset.univ = (iB L).view.read (Elt F) (m (iLoc d)) := by
    rw [View.write_whole_univ]; rfl
  ihave Hl := (show (listM.view.loc (V d (cV L) (jV L)) ↦{fullShare} View.write (Elt F) listM.view fl (tile_body.sl.dma0 m d L) Finset.univ : sProp 𝕄)
      ⊢ lLoc (cV L) (jV L) d ↦{fullShare} (iB L).view.read (Elt F) (m (iLoc d)) from Entails.of_eq (by rw [hlist])) $$ Hl'
  have hok : ListOK ((iB L).view.read (Elt F) (m (iLoc d))) := fun k => hpre d _
  -- The batch of 512 rows on the gathers' semaphore, and the four starts.
  imod (Transfers.batch_alloc' (countersEmb : UEmb Counters 𝕄) (V d (cV L) (jV L)) (default : HIx 1) rowUnits
    (landed (cV L) (jV L) d (pieceOf fullShare 32 (by decide) (block L)) (m (xLoc d)) ((iB L).view.read (Elt F) (m (iLoc d))) fr hok)) $$ HsemG with Hbatch
  ihave Hneed := (all_needed (cV L) (jV L) d (pieceOf fullShare 32 (by decide) (block L)) (m (xLoc d)) ((iB L).view.read (Elt F) (m (iLoc d))) fr) $$ [Hx Hr Hl]
  · isplitl [Hx]; · iexact Hx
    isplitl [Hr]; · iexact Hr
    iexact Hl
  ihave Hneed' := (Entails.of_eq (four _)) $$ Hneed
  icases Hneed' with ⟨H0, H1, H2, H3⟩
  iapply (start_block (cV L) (jV L) d _ (m (xLoc d)) ((iB L).view.read (Elt F) (m (iLoc d))) fr hok 0) $$ [H0 Hbatch]
  · isplitl [H0]; · iexact H0
    iexact Hbatch
  iintro Hbatch
  iapply (start_block (cV L) (jV L) d _ (m (xLoc d)) ((iB L).view.read (Elt F) (m (iLoc d))) fr hok 1) $$ [H1 Hbatch]
  · isplitl [H1]; · iexact H1
    iexact Hbatch
  iintro Hbatch
  iapply (start_block (cV L) (jV L) d _ (m (xLoc d)) ((iB L).view.read (Elt F) (m (iLoc d))) fr hok 2) $$ [H2 Hbatch]
  · isplitl [H2]; · iexact H2
    iexact Hbatch
  iintro Hbatch
  iapply (start_block (cV L) (jV L) d _ (m (xLoc d)) ((iB L).view.read (Elt F) (m (iLoc d))) fr hok 3) $$ [H3 Hbatch]
  · isplitl [H3]; · iexact H3
    iexact Hbatch
  iintro Hbatch
  -- The four waits; after the last every row has come.
  iapply (wait_block (cV L) (jV L) d _ (m (xLoc d)) ((iB L).view.read (Elt F) (m (iLoc d))) fr hok 0 0 (by decide)) $$ [Hbatch HO]
  · isplitl [Hbatch]; · iexact Hbatch
    isplitl [HO]; · iexact HO
    iapply (Transfers.MayWaits.elim (SemLoc.dma cc0_scratch2.sem)) $$ Hmw
  iintro ⟨Hbatch, HO⟩
  iapply (wait_block (cV L) (jV L) d _ (m (xLoc d)) ((iB L).view.read (Elt F) (m (iLoc d))) fr hok 1 1 (by decide)) $$ [Hbatch HO]
  · isplitl [Hbatch]; · iexact Hbatch
    isplitl [HO]; · iexact HO
    iapply (Transfers.MayWaits.elim (SemLoc.dma cc0_scratch2.sem)) $$ Hmw
  iintro ⟨Hbatch, HO⟩
  iapply (wait_block (cV L) (jV L) d _ (m (xLoc d)) ((iB L).view.read (Elt F) (m (iLoc d))) fr hok 2 2 (by decide)) $$ [Hbatch HO]
  · isplitl [Hbatch]; · iexact Hbatch
    isplitl [HO]; · iexact HO
    iapply (Transfers.MayWaits.elim (SemLoc.dma cc0_scratch2.sem)) $$ Hmw
  iintro ⟨Hbatch, HO⟩
  iapply (wait_block (cV L) (jV L) d _ (m (xLoc d)) ((iB L).view.read (Elt F) (m (iLoc d))) fr hok 3 3 (by decide)) $$ [Hbatch HO]
  · isplitl [Hbatch]; · iexact Hbatch
    isplitl [HO]; · iexact HO
    iapply (Transfers.MayWaits.elim (SemLoc.dma cc0_scratch2.sem)) $$ Hmw
  iintro ⟨Hbatch, HO⟩
  imod (collect (cV L) (jV L) d _ (m (xLoc d)) ((iB L).view.read (Elt F) (m (iLoc d))) fr hok) $$ Hbatch with ⟨Hx, Hr, Hl, HsemG⟩
  -- The copy out.
  ihave Hr' := (show (rLoc (cV L) (jV L) d ↦{fullShare} lookupBlock ((iB L).view.read (Elt F) (m (iLoc d))) (m (xLoc d)) : sProp 𝕄)
      ⊢ rowsM.view.loc (V d (cV L) (jV L)) ↦{fullShare} lookupBlock ((iB L).view.read (Elt F) (m (iLoc d))) (m (xLoc d)) from Entails.of_eq rfl) $$ Hr
  sl_exec
  sl_step
  have hout : ∀ p ∈ (oB L).view.set, (oB L).view.writes (Elt F) (m (oLoc d)) [⟨Rect.whole S512x128, tile_body.sl.dma0_1 m d L⟩] p = result m d p := fun p hp => by
    rw [← View.write_univ_eq_writes_whole, View.writes_nil]
    exact out_value L (m (iLoc d)) (m (xLoc d)) (m (oLoc d)) p hp
  ihave Ho := (show ((oB L).view.loc (V d (cV L) (jV L)) ↦[(oB L).view.set]{fullShare}
        (oB L).view.writes (Elt F) (m (oLoc d)) [⟨Rect.whole S512x128, tile_body.sl.dma0_1 m d L⟩] : sProp 𝕄)
      ⊢ oLoc d ↦[oSet (block L)]{fullShare} result m d from Entails.of_eq ((pointsTo_congr hout).trans (by rw [oB_set]))) $$ Ho'
  ihave Hi := (show ((iB L).view.loc (V d (cV L) (jV L)) ↦[(iB L).view.set]{fullShare} m (iLoc d) : sProp 𝕄)
      ⊢ iLoc d ↦[iSet (block L)]{fullShare} m (iLoc d) from Entails.of_eq (by rw [iB_set])) $$ Hi'
  isplitl [Hi Hx Ho]
  · isplitl [Hi]; · iexact Hi
    isplitl [Hx]; · iexact Hx
    iexact Ho
  isplitl [Hl Hr' Hbufs]
  · isplitl [Hl]; · iexists _; iexact Hl
    isplitl [Hr']; · iexists _; iexact Hr'
    iexact Hbufs
  isplitl [HsemI HsemO HsemG Hsems]
  · isplitl [HsemI]; · iexact HsemI
    isplitl [HsemO]; · iexact HsemO
    isplitl [HsemG]; · iexact HsemG
    iexact Hsems
  iexists _; isplitr
  swap; · iexact HO
  ipureintro; intro p hp
  simp only [Finset.mem_insert] at hp
  rcases hp with rfl | rfl | rfl | rfl | rfl | rfl | hp
  all_goals first | exact .inl hp | exact .inr rfl

end Cert.Proof.Lookup

end
-- ==== Proof.Launch.lean ====
/-
  The launch: 32 subcores, each its block.

  The two cores of a device are each handed the blocks of its sixteen subcores; the blocks of the row numbers and of the
  output partition them, and the table goes out in 32 equal shares. The blocks come back with the output at the lookup,
  so the launch ends with the output the lookup of the row numbers, the two inputs as they were, and every semaphore at
  zero (`run_main`).
-/
module

public import proofs.«01_k».proof.Proof.Task

@[expose] public section

noncomputable section

namespace Cert.Proof.Lookup

open Cert.KernelIdeal Cert.KernelIdeal.Gen
open Idealize.ShloMosaic
open Idealize.ShloMosaic.SparseCore (V S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ Ghost ℕ

variable (m : (ℓ : Loc nD τ sig) → Buf (Elt F) ℓ) (ρ : Dev nD → PrngReg)

/-! ## The blocks are the arrays -/

theorem iSet_apart : ∀ w ∈ (Finset.univ : Finset (Fin 32)), ∀ w' ∈ (Finset.univ : Finset (Fin 32)), w ≠ w' → Disjoint (iSet w) (iSet w') :=
  fun w _ w' _ h => Finset.disjoint_left.mpr fun p hp hp' =>
    h (Fin.ext ((Finset.mem_filter.mp hp).2.symm.trans (Finset.mem_filter.mp hp').2))
theorem oSet_apart : ∀ w ∈ (Finset.univ : Finset (Fin 32)), ∀ w' ∈ (Finset.univ : Finset (Fin 32)), w ≠ w' → Disjoint (oSet w) (oSet w') :=
  fun w _ w' _ h => Finset.disjoint_left.mpr fun p hp hp' =>
    h (Fin.ext ((Finset.mem_filter.mp hp).2.symm.trans (Finset.mem_filter.mp hp').2))
theorem iSet_cover : (Finset.univ : Finset (Fin 32)).biUnion iSet = Finset.univ :=
  Finset.eq_univ_iff_forall.mpr fun p => by
    have hp : (p 0).val < 16384 := (p 0).isLt
    exact Finset.mem_biUnion.mpr ⟨⟨(p 0).val / 512, by omega⟩, Finset.mem_univ _, Finset.mem_filter.mpr ⟨Finset.mem_univ _, rfl⟩⟩
theorem oSet_cover : (Finset.univ : Finset (Fin 32)).biUnion oSet = Finset.univ :=
  Finset.eq_univ_iff_forall.mpr fun p => by
    have hp : (p 0).val < 16384 := (p 0).isLt
    exact Finset.mem_biUnion.mpr ⟨⟨(p 0).val / 512, by omega⟩, Finset.mem_univ _, Finset.mem_filter.mpr ⟨Finset.mem_univ _, rfl⟩⟩

/-- The three arrays of a device, the output at `f`. -/
def arrays (d : Dev nD) (f : Buf (Elt F) (oLoc d)) : sProp 𝕄 :=
  iprop((iLoc d ↦{fullShare} m (iLoc d)) ∗ (xLoc d ↦{fullShare} m (xLoc d)) ∗ (oLoc d ↦{fullShare} f))

theorem i_blocks (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iSet_apart, iSet_cover]; try rfl
theorem o_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSet_apart, oSet_cover]; try rfl

/-- The arrays are what the 32 tasks are handed. -/
theorem arrays_blocks (d : Dev nD) (f : Buf (Elt F) (oLoc d)) : arrays m d f = bigSep Finset.univ fun w : Fin 32 => taskPts m d w f := by
  unfold arrays taskPts
  rw [i_blocks, o_blocks, pointsTo_piecesOf Finset.univ (m (xLoc d)) (show 0 < 32 by decide) fullShare, bigSep_sep', bigSep_sep']

/-- Subcore `i` of core `c` has block `2 i + c`. -/
def blockOf (c : Fin 2) (i : Fin 16) : Fin 32 := ⟨2 * i.val + c.val, by omega⟩

/-- The 32 tasks are the two cores' sixteen. -/
theorem arrays_cores (d : Dev nD) (f : Buf (Elt F) (oLoc d)) :
    arrays m d f = bigSep Finset.univ fun c : Fin 2 => bigSep Finset.univ fun i : Fin 16 => taskPts m d (blockOf c i) f := by
  rw [arrays_blocks, bigSep_univ_equiv ((Equiv.prodComm (Fin 2) (Fin 16)).trans ((finProdFinEquiv (m := 16) (n := 2)).trans (finCongr rfl))), bigSep_univ_prod]
  refine bigSep_congr fun c _ => bigSep_congr fun i _ => ?_
  exact congrArg (fun w => taskPts m d w f) (Fin.ext (by show c.val + 2 * i.val = 2 * i.val + c.val; omega))

/-! ## What the call hands out and takes back -/

/-- A core is handed its sixteen tasks' blocks and returns them with the output at the lookup. -/
def P : (K (F := F)).Pay (nD := nD) (Val := Elt F) (Name := ℕ) (U := Ghost) where
  st := fun q d c => match q with | 0 => bigSep Finset.univ fun i : Fin 16 => taskPts m d (blockOf c i) (m (oLoc d))
  dn := fun q d c => match q with | 0 => bigSep Finset.univ fun i : Fin 16 => taskPts m d (blockOf c i) (result m d)
  go := fun q d c i => match q with | 0 => taskPts m d (blockOf c i) (m (oLoc d))
  td := fun q d c i => match q with | 0 => taskPts m d (blockOf c i) (result m d)
  x := fun _ _ => iprop(emp)

instance taskPts_storable (d : Dev nD) (w : Fin 32) (f : Buf (Elt F) (oLoc d)) : BI.Storable (upEmb : UEmb _ 𝕄) (taskPts m d w f) := by
  unfold taskPts; infer_instance

instance P_storable : (P (F := F) m).IsStorable where
  st q d c := match q with
    | 0 => (inferInstance : BI.Storable (upEmb : UEmb _ 𝕄) (bigSep Finset.univ fun i : Fin 16 => taskPts m d (blockOf c i) (m (oLoc d))))
  dn q d c := match q with
    | 0 => (inferInstance : BI.Storable (upEmb : UEmb _ 𝕄) (bigSep Finset.univ fun i : Fin 16 => taskPts m d (blockOf c i) (result m d)))
  go q d c i := match q with
    | 0 => (inferInstance : BI.Storable (upEmb : UEmb _ 𝕄) (taskPts m d (blockOf c i) (m (oLoc d))))
  td q d c i := match q with
    | 0 => (inferInstance : BI.Storable (upEmb : UEmb _ 𝕄) (taskPts m d (blockOf c i) (result m d)))

theorem vecSplit : (K (F := F)).VecSplit' (P m) 0 := by
  intro d c
  show (bigSep Finset.univ fun i : Fin 16 => taskPts m d (blockOf c i) (m (oLoc d))) ⊢ |={Set.univ}=> iprop(
      (bigSep Finset.univ fun i : Fin 16 => taskPts m d (blockOf c i) (m (oLoc d)))
      ∗ ((bigSep Finset.univ fun i : Fin 16 => taskPts m d (blockOf c i) (result m d))
          -∗ (bigSep Finset.univ fun i : Fin 16 => taskPts m d (blockOf c i) (result m d))))
  iintro H; imodintro
  isplitl [H]; · iexact H
  iintro H; iexact H

/-! ## The tasks' obligation -/

variable [FloatOps F]

/-- Core `c`'s subcore `s` as a place of the grid. -/
def coordsOf (c : Fin (grid0.bound 0)) (s : Fin (grid0.bound 1)) : grid0.Coords :=
  fun | 0 => c | 1 => s | ⟨_ + 2, h⟩ => absurd h (Nat.not_lt.2 (Nat.le_add_left _ _))

theorem defs₀_task (c : Fin τ.nSC) (s : Fin τ.nSub) :
    defs₀ (F := F) (.scVector c s) 0 ()
      = SparseCore.onTile hcore0 hsub0 (fun c s => cc0_lookup (coordsOf c s)
          iM (Memref.isWhole_whole _) xM (Memref.isWhole_whole _) oM (Memref.isWhole_whole _)
          listM (Memref.isWhole_whole _) rowsM (Memref.isWhole_whole _) cc0_scratch2 cc0_scoped0 cc0_scoped1) ⟨⟩ c s := rfl

theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call runs from its block and leaves it at the lookup. -/
theorem tileObl (hF : (K (F := F)).Facts) (hpre : InRange m) : (K (F := F)).TileObl (bodies (F := F)) vars (P m) top 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (bodies (F := F)) (Pipeline.defs_kernel pcfgs defs₀) vars₀ _ Set.univ none _ _)
  rw [defs₀_task]; simp only [SparseCore.onTile, hci, and_self, ↓reduceDIte]
  exact (tile_body m d (coordsOf ⟨_, hci.1⟩ ⟨_, hci.2⟩) hF hpre O W hO).trans (wp_mono frame _ _ fun _ => waits_weaken)

/-! ## The ghost state at the launch -/

def ghost₀ : Ghost := (initOf (K (F := F)).hsCells (K (F := F)).hsToks, 1)

omit [FloatOps F] in
theorem emps {I : Type} (s : Finset I) : (bigSep s fun _ => iprop(emp)) = (iprop(emp) : sProp 𝕄) := bigSep_emp_const s

omit [FloatOps F] in
theorem ghost_start : (ownU (ghost₀ (F := F)) : sProp 𝕄)
    ⊢ |={Set.univ}=> iprop(BI.own (roundsIn (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold ghost₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The program -/

omit [FloatOps F] in
theorem unscoped_arrays (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
theorem handed_out (d : Dev nD) : (bigSep Finset.univ fun c : Fin ((K (F := F)).nCore 0) => (P m).st 0 d c) = arrays m d (m (oLoc d)) :=
  (arrays_cores m d _).symm
omit [FloatOps F] in
theorem handed_back (d : Dev nD) : (bigSep Finset.univ fun c : Fin ((K (F := F)).nCore 0) => (P m).dn 0 d c) = arrays m d (result m d) :=
  (arrays_cores m d _).symm

/-- The program on a device: the one call takes the three arrays and gives them back, the output at the lookup. -/
theorem main_wp (κ : GSem nD τ sig → ℕ) (d : Dev nD) :
    iprop((K (F := F)).ctx roundsIn (P m) κ ∗ (K (F := F)).tcSt roundsIn d 0 ∗ (K (F := F)).tcRes m ρ d ∗ emp)
      ⊢ wp frame (wpE ((K (F := F)).defs (bodies (F := F))) vars (SparseCore.T d) none) Set.univ (main d)
          fun _ => iprop((K (F := F)).tcSt roundsIn d 1 ∗ arrays m d (result m d) ∗ (K (F := F)).tcEnd d) := by
  unfold SparseCore.Cfg.tcRes SparseCore.Cfg.tcEnd
  rw [unscoped_arrays]
  simp only [main, wp_bind, wp_pure]
  iintro ⟨#Hctx, Hst, ⟨Hb, ⟨Hi, Hx, Ho⟩, Hts, -⟩, -⟩
  iapply ((K (F := F)).wp_run (bodies (F := F)) vars (EH := roundsIn) (P := P m) κ d 0) $$ [Hst Hi Hx Ho Hb Hts]
  isplitr; · iexact Hctx
  isplitl [Hst]; · iexact Hst
  isplitl [Hi Hx Ho]
  · rw [handed_out]; unfold arrays
    isplitl [Hi]; · iexact Hi
    isplitl [Hx]; · iexact Hx
    iexact Ho
  iintro ⟨Hst, Hdn⟩
  ihave Hdn' := (Entails.of_eq (handed_back m d)) $$ Hdn
  imodintro
  isplitl [Hst]; · iexact Hst
  isplitl [Hdn']; · iexact Hdn'
  isplitl [Hb] <;> iassumption

/-- What the final memory of a device holds. -/
def Holds (d : Dev nD) (s' : Phys nD τ sig (Elt F)) : Prop :=
  s'.mem.mem (iLoc d) = m (iLoc d) ∧ s'.mem.mem (xLoc d) = m (xLoc d) ∧ s'.mem.mem (oLoc d) = result m d

omit [FloatOps F] in
set_option maxRecDepth 16384 in
theorem arrays_hold (d : Dev nD) (s' : Phys nD τ sig (Elt F)) : iprop(arrays m d (result m d) ∗ SI s') ⊢ (⌜Holds m d s'⌝ : sProp 𝕄) := by
  unfold arrays
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := result m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- Every run ends, with the output of every device the lookup of its row numbers in its table, both inputs as they
    were, and every semaphore at zero. -/
theorem run_main [∀ e, Nonempty (Elt F e)] (hpre : InRange m) :
    θ_run (Cert.KernelIdeal.defs (F := F)) (Cert.KernelIdeal.threads (F := F)) ⟨m, fun _ => 0, ρ⟩ fun r =>
      (∀ c : Dev nD, r.2.mem (iLoc c) = m (iLoc c) ∧ r.2.mem (xLoc c) = m (xLoc c) ∧ r.2.mem (oLoc c) = result m c) ∧ r.2.sem = fun _ => 0 :=
  SparseCore.Cfg.θ_run_sc_quiescent (K := K (F := F)) (D := bodies (F := F)) (𝒱 := vars) (EH := roundsIn) (P := P m) (A := ∅) callFacts top
    (fun q hq => match q with | 0 => nomatch hq)
    (fun q _ => match q with | 0 => tileObl m callFacts hpre)
    (fun q _ => match q with | 0 => SparseCore.Cfg.VecSplit.of_plain (vecSplit m))
    m ρ main (fun _ => iprop(emp)) (fun d => arrays m d (result m d)) (ghost₀ (F := F)) (sep_elim_left.trans (ghost_start m)) (main_wp m ρ) (Holds m) (arrays_hold m)
    _ (fun _ h hz => ⟨h, hz⟩)

end Cert.Proof.Lookup

end
-- ==== Proof.Range.lean ====
/-
  The precondition read as a statement about words: a list of row numbers of which `x_in_rows` is all ones holds numbers
  below 8193 only; and conversely the two comparisons hold of such a word.
-/
module

public import proofs.«01_k».proof.Proof.Setup
public import proofs.«01_k».proof.Proof.Gen.Kernel
public import proofs.«01_k».proof.Proof.Gen.Pre_x_in_rows
public import Idealize.ShloMosaic.Lib.ReduceAll

@[expose] public section

noncomputable section

namespace Cert.Proof.Range

open Idealize.ShloMosaic

/-- The `i1` word of a truth value is 1 exactly when it is true. -/
theorem word_one (p : Bool) : BitVec.ofBool p = 1#1 ↔ p = true := by cases p <;> decide

/-- A word at least 0 and at most 8192, read signed, is a number below 8193. -/
theorem below {w : BitVec 32} (lo : IntOp.cmpi .sge w 0#32 = 1#1) (hi : IntOp.cmpi .sle w 8192#32 = 1#1) : w.toNat < 8193 := by
  simp only [IntOp.cmpi, word_one, BitVec.sle_eq_decide, decide_eq_true_eq, BitVec.toInt_eq_toNat_cond, BitVec.toNat_ofNat, Nat.reducePow,
    Nat.reduceMod] at lo hi
  omega

/-- A number below 8193 is at least 0 when read signed, -/
theorem at_least {w : BitVec 32} (h : w.toNat < 8193) : IntOp.cmpi .sge w 0#32 = 1#1 := by
  simp only [IntOp.cmpi, word_one, BitVec.sle_eq_decide, decide_eq_true_eq, BitVec.toInt_eq_toNat_cond, BitVec.toNat_ofNat, Nat.reducePow,
    Nat.reduceMod]
  omega

/-- at most 8192, -/
theorem at_most {w : BitVec 32} (h : w.toNat < 8193) : IntOp.cmpi .sle w 8192#32 = 1#1 := by
  simp only [IntOp.cmpi, word_one, BitVec.sle_eq_decide, decide_eq_true_eq, BitVec.toInt_eq_toNat_cond, BitVec.toNat_ofNat, Nat.reducePow,
    Nat.reduceMod]
  omega

/-- and not negative. -/
theorem not_negative {w : BitVec 32} (h : w.toNat < 8193) : IntOp.cmpi .slt w 0#32 ≠ 1#1 := by
  simp only [IntOp.cmpi, ne_eq, word_one, BitVec.slt_eq_decide, decide_eq_true_eq, BitVec.toInt_eq_toNat_cond, BitVec.toNat_ofNat, Nat.reducePow,
    Nat.reduceMod]
  omega

/-- The result of a reduction over every axis has one index. -/
instance : Subsingleton Cert.Pre_x_in_rows.S_.Idx := ⟨fun a b => funext fun d => d.elim0⟩

/-- The predicate, all ones, bounds every row number. -/
theorem of_pre {F : FTy → Type} [FloatOps F] (x : IVec Cert.Pre_x_in_rows.S16384 32) (pe : FVec F Cert.Pre_x_in_rows.S8193x128 .f32)
    (h : Cert.Pre_x_in_rows.fn x pe = fun _ => 1#1) (j : Cert.Pre_x_in_rows.S16384.Idx) : (x j).toNat < 8193 := by
  have both := Host.reduce_andi_all _ _ _ _ (fun d => d.elim0) (congrFun h fun d => d.elim0) j
  obtain ⟨lo, hi⟩ := IntOp.andi_eq_one.1 both
  exact below lo hi

/-- The kernel's precondition puts every row number of every device in the table, for words as floats -/
theorem kernel (m : (ℓ : Loc Cert.Kernel.nD Cert.Kernel.τ Cert.Kernel.sig) → Buf (Elt Bits) ℓ) (h : Cert.Pre_Kernel m) :
    Lookup.InRange (F := Bits) m := fun d j => of_pre (F := Bits) _ _ (h d) j

/-- and for extended reals as floats. -/
theorem kernelIdeal (m : (ℓ : Loc Cert.KernelIdeal.nD Cert.KernelIdeal.τ Cert.KernelIdeal.sig) → Buf (Elt Ideal) ℓ) (h : Cert.Pre_KernelIdeal m) :
    Lookup.InRange (F := Ideal) m := fun d j => of_pre (F := Ideal) _ _ (h d) j

end Cert.Proof.Range

end
-- ==== Proof.Reference.lean ====
/-
  What the reference computes. Its term wraps negative row numbers, gathers a row for each, and keeps a gathered row only
  where the wrapped number lies in the table. On numbers below 8193 nothing is wrapped and every row is kept: the term is
  the plain lookup.
-/
module

public import proofs.«01_k».proof.Proof.Range
public import proofs.«01_k».proof.Proof.Gen.ReferenceIdeal.Run
public import Idealize.ShloMosaic.Lib.Routing.Ops
public import Idealize.ShloMosaic.Lib.QuiescentFlight

@[expose] public section

noncomputable section

namespace Cert.Proof.Reference

open Cert.ReferenceIdeal Cert.ReferenceIdeal.Gen
open Idealize.ShloMosaic Idealize.ShloMosaic.ValueIdx
open Idealize.SL.Sem

variable {F : FTy → Type} [FloatOps F]

/-! ## The term -/

/-- The row numbers with 8193 added to the negative ones. -/
abbrev wrapped (x : IVec S16384 32) : IVec S16384 32 :=
  select (cmpi .slt x (broadcastInDim S16384 ![] bcast_S_S16384 (constantI S_ 32 0#32)))
    (addi x (broadcastInDim S16384 ![] bcast_S_S16384 (constantI S_ 32 8193#32))) x

/-- The same as a column. -/
abbrev column (x : IVec S16384 32) : IVec S16384x1 32 := broadcastInDim S16384x1 ![0] bcast_S16384_S16384x1_0 (wrapped x)

/-- Which entries of a column are rows of the table. -/
abbrev inTable (b : IVec S16384x1 32) : IVec S16384x1 1 :=
  andi (cmpi .sge b (broadcastInDim S16384x1 ![] bcast_S_S16384x1 (constantI S_ 32 0#32)))
    (cmpi .sle b (broadcastInDim S16384x1 ![0, 1] bcast_S1x1_S16384x1_0_1 (broadcastInDim S1x1 ![1] bcast_S1_S1x1_1 (constantI S1 32 8192#32))))

/-- The reference's result: the gathered rows where the number is a row, not-a-number elsewhere. -/
abbrev term (x : IVec S16384 32) (pe : FVec F S8193x128 .f32) : FVec F S16384x128 .f32 :=
  select (broadcastInDim S16384x128 ![0] bcast_S16384_S16384x128_0
      (Host.reduce IntOp.andi (inTable (column x)) (constantI S_ 1 1#1) reducesTo_S16384x1_S16384_d1 h_S_))
    (Host.gather gather_S8193x128_S16384x1_S16384x128_1_0_n_n_0_1_1128 pe (column x))
    (broadcastInDim S16384x128 ![] bcast_S_S16384x128 (constant S_ .f32 0x7FC00000#32))

/-! ## Its value -/

/-- Row numbers in the table are left as they are. -/
theorem wrapped_eq (x : IVec S16384 32) (hx : ∀ j, (x j).toNat < 8193) : wrapped x = x := by
  funext j
  exact if_neg (Range.not_negative (hx j))

/-- Entry `(c, 0)` of a list made a column is entry `c` of the list. -/
theorem column_at (x : IVec S16384 32) (c : Fin 16384) :
    broadcastInDim S16384x1 ![0] bcast_S16384_S16384x1_0 x (ix2 c (0 : Fin 1)) = x (Lookup.ix c) := by
  refine congrArg x (funext fun a => Fin.ext ?_)
  obtain rfl : a = 0 := Fin.ext (by have h1 : a.val < 1 := a.isLt; show a.val = 0; omega)
  rfl

/-- Every entry of a column of numbers below 8193 is a row of the table. -/
theorem inTable_one (b : IVec S16384x1 32) (hb : ∀ j, (b j).toNat < 8193) (j : S16384x1.Idx) : inTable b j = 1#1 :=
  IntOp.andi_eq_one.2 ⟨Range.at_least (hb j), Range.at_most (hb j)⟩

/-- The gathered rows are the looked-up rows. -/
theorem gathered (x : IVec S16384 32) (hx : ∀ j, (x j).toNat < 8193) (pe : FVec F S8193x128 .f32) (c : Fin 16384) (y : Fin 128) :
    Host.gather gather_S8193x128_S16384x1_S16384x128_1_0_n_n_0_1_1128 pe (broadcastInDim S16384x1 ![0] bcast_S16384_S16384x1_0 x) (ix2 c y)
      = pe (Lookup.cell (x (Lookup.ix c)) y) := by
  have hrow := hx (Lookup.ix c)
  refine (Routing.gather_row gather_S8193x128_S16384x1_S16384x128_1_0_n_n_0_1_1128 rfl rfl rfl rfl rfl pe _ c y ⟨_, hrow⟩ ?_ (by norm_num)).trans ?_
  · rw [column_at]; simp
  · exact congrArg pe (Lookup.eq_cell hrow rfl rfl)

/-- A selection takes its first array where its condition is 1. -/
theorem kept {s : Shape} {α : Type} (k : IVec s 1) (a b : s.Idx → α) (p : s.Idx) (h : k p = 1#1) : select k a b p = a p := if_pos h

/-- On row numbers of the table the reference's term is the plain lookup. -/
theorem term_eq (x : IVec S16384 32) (hx : ∀ j, (x j).toNat < 8193) (pe : FVec F S8193x128 .f32) : term x pe = Lookup.lookup x pe := by
  funext p
  have keep : Host.reduce IntOp.andi (inTable (column x)) (constantI S_ 1 1#1) reducesTo_S16384x1_S16384_d1 h_S_ = fun _ => 1#1 :=
    funext fun j => Host.reduce_andi_one _ _ _ _ j rfl
      (inTable_one _ fun i => by show (wrapped x _).toNat < 8193; rw [wrapped_eq x hx]; exact hx _)
  unfold term
  rw [kept _ _ _ p (by rw [keep]; rfl)]
  unfold column
  rw [wrapped_eq x hx]
  obtain ⟨c, y, rfl⟩ : ∃ (c : Fin 16384) (y : Fin 128), p = ix2 c y := ⟨p 0, p 1, funext fun a => match a with
    | 0 => rfl
    | 1 => rfl⟩
  exact gathered x hx pe _ _

/-! ## Its run -/

/-- The reference ends with its term in the result, its arguments unchanged and every counter at zero: it has none. -/
theorem run_main (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_v0) = term (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run _ _ _).mono (fun r h => ⟨h, sem_eq_zero_of_no_sems (by decide) r.2⟩) (Value.run m ρ)

end Cert.Proof.Reference

end
-- ==== Proof.lean ====
/-
  The certificate's claim: the lookup kernel and the reference run to a quiet end with their arguments unchanged, and over
  the extended reals they end with the same result, the table's rows that the row numbers name.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_x_in_rows
public import proofs.«01_k».proof.Proof.Launch
public import proofs.«01_k».proof.Proof.Range
public import proofs.«01_k».proof.Proof.Reference
public import Idealize.ShloMosaic.Adequacy
public import Idealize.ShloMosaic.Init

@[expose] public section

noncomputable section

namespace Cert.Proof

open Idealize.ShloMosaic Idealize.SL.Sem

/-- From row numbers that are rows of the table the kernel runs to a quiet end and leaves its arguments alone. -/
theorem frame_kernel : Cert.quiescent_Kernel := fun m ρ h =>
  (θ_run Cert.Kernel.defs _ _).mono (fun _ e => ⟨fun c => ⟨(e.1 c).1, (e.1 c).2.1⟩, e.2⟩)
    (Lookup.run_main (F := Bits) m ρ (Range.kernel m h))

/-- The same with extended reals for floats. -/
theorem frame_kernelIdeal : Cert.quiescent_KernelIdeal := fun m ρ h =>
  (θ_run Cert.KernelIdeal.defs _ _).mono (fun _ e => ⟨fun c => ⟨(e.1 c).1, (e.1 c).2.1⟩, e.2⟩)
    (Lookup.run_main (F := Ideal) m ρ (Range.kernelIdeal m h))

/-- The reference runs to a quiet end from every memory and leaves its arguments alone, -/
theorem frame_reference : Cert.quiescent_ReferenceIdeal := fun m ρ _ =>
  (θ_run Cert.ReferenceIdeal.defs _ _).mono (fun _ e => ⟨fun c => (e.1 c).2, e.2⟩) (Reference.run_main (F := Ideal) m ρ)

/-- so also from one whose row numbers are rows of the table. -/
theorem frame_reference_pre : Cert.quiescent_ReferenceIdeal_pre_x_in_rows := fun m ρ _ => frame_reference m ρ trivial

/-- From equal arguments, the row numbers being rows of the table, both end with the looked-up rows. -/
theorem algebraic : Cert.algebraic_KernelIdeal_ReferenceIdeal := by
  intro m ρ m' ρ' h same
  have hr := Range.kernelIdeal m h
  refine ⟨Lookup.result m, (θ_run Cert.KernelIdeal.defs _ _).mono (fun _ e c => ⟨(e.1 c).2.2, (e.1 c).1, (e.1 c).2.1⟩)
    (Lookup.run_main (F := Ideal) m ρ hr), ?_⟩
  refine (θ_run Cert.ReferenceIdeal.defs _ _).mono (fun _ e c => ⟨(e.1 c).1.trans ?_, (e.1 c).2⟩) (Reference.run_main (F := Ideal) m' ρ')
  rw [(same c).1, (same c).2]
  exact Reference.term_eq _ (hr c) _

/-- The certificate's claim. -/
theorem claim : Cert.Claim :=
  ⟨Cert.Kernel.Gen.facts, Cert.KernelIdeal.Gen.facts, Cert.ReferenceIdeal.Gen.facts, Cert.Pre_x_in_rows.Gen.facts,
    frame_kernel, frame_kernelIdeal, frame_reference, frame_reference_pre, trivial, algebraic⟩

end Cert.Proof

end
